-- ==== Defs.lean ====
def Pre_Kernel (m : (ℓ : Loc Cert.Kernel.nD Cert.Kernel.τ Cert.Kernel.sig) → Buf (Elt Bits) ℓ) : Prop :=
  True

def Pre_KernelCast (m : (ℓ : Loc Cert.KernelCast.nD Cert.KernelCast.τ Cert.KernelCast.sig) → Buf (Elt Bits) ℓ) : Prop :=
  True

def Pre_KernelCastIdeal (m : (ℓ : Loc Cert.KernelCastIdeal.nD Cert.KernelCastIdeal.τ Cert.KernelCastIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelCast [hKernelCast : Cert.KernelCast.Facts] : Prop :=
  ∀ (m : (ℓ : Loc Cert.KernelCast.nD Cert.KernelCast.τ Cert.KernelCast.sig) → Buf (Elt Bits) ℓ) (g : Dev Cert.KernelCast.nD → PrngReg), Pre_KernelCast m →
    θ_run (Cert.KernelCast.defs (F := Bits)) (onTc (τ := Cert.KernelCast.τ) (Cert.KernelCast.main (F := Bits))) ⟨m, fun _ => 0, g⟩ (fun r => (∀ c : Dev Cert.KernelCast.nD,
      r.2.mem ((c.tc : Thread Cert.KernelCast.nD Cert.KernelCast.τ).loc Cert.KernelCast.main_arg0) = m ((c.tc : Thread Cert.KernelCast.nD Cert.KernelCast.τ).loc Cert.KernelCast.main_arg0)
      ∧ r.2.mem ((c.tc : Thread Cert.KernelCast.nD Cert.KernelCast.τ).loc Cert.KernelCast.main_arg1) = m ((c.tc : Thread Cert.KernelCast.nD Cert.KernelCast.τ).loc Cert.KernelCast.main_arg1))
      ∧ r.2.sem = fun _ => 0)

def quiescent_KernelCastIdeal [hKernelCastIdeal : Cert.KernelCastIdeal.Facts] : Prop :=
  ∀ (m : (ℓ : Loc Cert.KernelCastIdeal.nD Cert.KernelCastIdeal.τ Cert.KernelCastIdeal.sig) → Buf (Elt Ideal) ℓ) (g : Dev Cert.KernelCastIdeal.nD → PrngReg), Pre_KernelCastIdeal m →
    θ_run (Cert.KernelCastIdeal.defs (F := Ideal)) (onTc (τ := Cert.KernelCastIdeal.τ) (Cert.KernelCastIdeal.main (F := Ideal))) ⟨m, fun _ => 0, g⟩ (fun r => (∀ c : Dev Cert.KernelCastIdeal.nD,
      r.2.mem ((c.tc : Thread Cert.KernelCastIdeal.nD Cert.KernelCastIdeal.τ).loc Cert.KernelCastIdeal.main_arg0) = m ((c.tc : Thread Cert.KernelCastIdeal.nD Cert.KernelCastIdeal.τ).loc Cert.KernelCastIdeal.main_arg0)
      ∧ r.2.mem ((c.tc : Thread Cert.KernelCastIdeal.nD Cert.KernelCastIdeal.τ).loc Cert.KernelCastIdeal.main_arg1) = m ((c.tc : Thread Cert.KernelCastIdeal.nD Cert.KernelCastIdeal.τ).loc Cert.KernelCastIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def bitexact_Kernel_KernelCast [hKernel : Cert.Kernel.Facts] [hKernelCast : Cert.KernelCast.Facts] : Prop :=
  ∀ (m : (ℓ : Loc Cert.Kernel.nD Cert.Kernel.τ Cert.Kernel.sig) → Buf (Elt Bits) ℓ) (g : Dev Cert.Kernel.nD → PrngReg)
    (m' : (ℓ : Loc Cert.KernelCast.nD Cert.KernelCast.τ Cert.KernelCast.sig) → Buf (Elt Bits) ℓ) (g' : Dev Cert.KernelCast.nD → PrngReg), Pre_Kernel m →
    (∀ c : Dev Cert.Kernel.nD,
      m' ((c.tc : Thread Cert.KernelCast.nD Cert.KernelCast.τ).loc Cert.KernelCast.main_arg0) = m ((c.tc : Thread Cert.Kernel.nD Cert.Kernel.τ).loc Cert.Kernel.main_arg0)
      ∧ m' ((c.tc : Thread Cert.KernelCast.nD Cert.KernelCast.τ).loc Cert.KernelCast.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.KernelCast.defs (F := Bits)) (onTc (τ := Cert.KernelCast.τ) (Cert.KernelCast.main (F := Bits))) ⟨m', fun _ => 0, g'⟩ (fun r => ∀ c : Dev Cert.KernelCast.nD,
          r.2.mem ((c.tc : Thread Cert.KernelCast.nD Cert.KernelCast.τ).loc Cert.KernelCast.main_v2) = v0 c
          ∧ r.2.mem ((c.tc : Thread Cert.KernelCast.nD Cert.KernelCast.τ).loc Cert.KernelCast.main_arg0) = m' ((c.tc : Thread Cert.KernelCast.nD Cert.KernelCast.τ).loc Cert.KernelCast.main_arg0)
          ∧ r.2.mem ((c.tc : Thread Cert.KernelCast.nD Cert.KernelCast.τ).loc Cert.KernelCast.main_arg1) = m' ((c.tc : Thread Cert.KernelCast.nD Cert.KernelCast.τ).loc Cert.KernelCast.main_arg1))

def preserves_KernelCast_KernelCastIdeal : Prop :=
  IdealRules.bf16_pair.HalfStatement Cert.KernelCastIdeal.S128x26000
  ∧ IdealRules.bf16_pack.Statement Cert.KernelCastIdeal.S128x26000

def algebraic_KernelCastIdeal_ReferenceIdeal [hKernelCastIdeal : Cert.KernelCastIdeal.Facts] [hReferenceIdeal : Cert.ReferenceIdeal.Facts] : Prop :=
  ∀ (m : (ℓ : Loc Cert.KernelCastIdeal.nD Cert.KernelCastIdeal.τ Cert.KernelCastIdeal.sig) → Buf (Elt Ideal) ℓ) (g : Dev Cert.KernelCastIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelCastIdeal m →
    (∀ c : Dev Cert.KernelCastIdeal.nD,
      m' ((c.tc : Thread Cert.ReferenceIdeal.nD Cert.ReferenceIdeal.τ).loc Cert.ReferenceIdeal.main_arg0) = m ((c.tc : Thread Cert.KernelCastIdeal.nD Cert.KernelCastIdeal.τ).loc Cert.KernelCastIdeal.main_arg0)
      ∧ m' ((c.tc : Thread Cert.ReferenceIdeal.nD Cert.ReferenceIdeal.τ).loc Cert.ReferenceIdeal.main_arg1) = m ((c.tc : Thread Cert.KernelCastIdeal.nD Cert.KernelCastIdeal.τ).loc Cert.KernelCastIdeal.main_arg1)) →
    ∃ (v0 : (c : Dev Cert.KernelCastIdeal.nD) → Buf (Elt Ideal) ((c.tc : Thread Cert.KernelCastIdeal.nD Cert.KernelCastIdeal.τ).loc Cert.KernelCastIdeal.main_v2)),
      θ_run (Cert.KernelCastIdeal.defs (F := Ideal)) (onTc (τ := Cert.KernelCastIdeal.τ) (Cert.KernelCastIdeal.main (F := Ideal))) ⟨m, fun _ => 0, g⟩ (fun r => ∀ c : Dev Cert.KernelCastIdeal.nD,
          r.2.mem ((c.tc : Thread Cert.KernelCastIdeal.nD Cert.KernelCastIdeal.τ).loc Cert.KernelCastIdeal.main_v2) = v0 c
          ∧ r.2.mem ((c.tc : Thread Cert.KernelCastIdeal.nD Cert.KernelCastIdeal.τ).loc Cert.KernelCastIdeal.main_arg0) = m ((c.tc : Thread Cert.KernelCastIdeal.nD Cert.KernelCastIdeal.τ).loc Cert.KernelCastIdeal.main_arg0)
          ∧ r.2.mem ((c.tc : Thread Cert.KernelCastIdeal.nD Cert.KernelCastIdeal.τ).loc Cert.KernelCastIdeal.main_arg1) = m ((c.tc : Thread Cert.KernelCastIdeal.nD Cert.KernelCastIdeal.τ).loc Cert.KernelCastIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelCast : Cert.KernelCast.Facts) (hKernelCastIdeal : Cert.KernelCastIdeal.Facts) (hReferenceIdeal : Cert.ReferenceIdeal.Facts),
    quiescent_Kernel (hKernel := hKernel)
    ∧ quiescent_KernelCast (hKernelCast := hKernelCast)
    ∧ quiescent_KernelCastIdeal (hKernelCastIdeal := hKernelCastIdeal)
    ∧ quiescent_ReferenceIdeal (hReferenceIdeal := hReferenceIdeal)
    ∧ bitexact_Kernel_KernelCast (hKernel := hKernel) (hKernelCast := hKernelCast)
    ∧ preserves_KernelCast_KernelCastIdeal
    ∧ algebraic_KernelCastIdeal_ReferenceIdeal (hKernelCastIdeal := hKernelCastIdeal) (hReferenceIdeal := hReferenceIdeal)
-- ==== Kernel.lean ====
abbrev S1024x26000 : Shape := ⟨2, ![1024, 26000]⟩
abbrev S26x1000x16 : Shape := ⟨3, ![26, 1000, 16]⟩
abbrev S_ : Shape := ⟨0, ![]⟩
abbrev S26000x16 : Shape := ⟨2, ![26000, 16]⟩
abbrev S1024x16 : Shape := ⟨2, ![1024, 16]⟩
abbrev S128x26000 : Shape := ⟨2, ![128, 26000]⟩
abbrev S128x16 : Shape := ⟨2, ![128, 16]⟩

abbrev nBuf : Space → Nat
  | .hbm => 10
  | .vmem => 5
  | .smem => 0
  | _ => 0

abbrev bufTy : (tb : Table) → Fin (tcTables nBuf tb) → BufTy
  | .hbm, ⟨0, _⟩ => ⟨S1024x26000, .f32⟩
  | .hbm, ⟨1, _⟩ => ⟨S26x1000x16, .f32⟩
  | .hbm, ⟨2, _⟩ => ⟨S1024x26000, .i32⟩
  | .hbm, ⟨3, _⟩ => ⟨S_, .i32⟩
  | .hbm, ⟨4, _⟩ => ⟨S1024x26000, .i32⟩
  | .hbm, ⟨5, _⟩ => ⟨S1024x26000, .i32⟩
  | .hbm, ⟨6, _⟩ => ⟨S1024x26000, .i16⟩
  | .hbm, ⟨7, _⟩ => ⟨S26000x16, .f32⟩
  | .hbm, ⟨8, _⟩ => ⟨S26000x16, .bf16⟩
  | .hbm, ⟨9, _⟩ => ⟨S1024x16, .f32⟩
  | .local _ .vmem, ⟨0, _⟩ => ⟨S128x26000, .i16⟩
  | .local _ .vmem, ⟨1, _⟩ => ⟨S128x26000, .i16⟩
  | .local _ .vmem, ⟨2, _⟩ => ⟨S26000x16, .bf16⟩
  | .local _ .vmem, ⟨3, _⟩ => ⟨S128x16, .f32⟩
  | .local _ .vmem, ⟨4, _⟩ => ⟨S128x16, .f32⟩
  | _, _ => ⟨S1024x26000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x26000 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26000x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelCast.lean ====
abbrev S1024x26000 : Shape := ⟨2, ![1024, 26000]⟩
abbrev S26x1000x16 : Shape := ⟨3, ![26, 1000, 16]⟩
abbrev S26000x16 : Shape := ⟨2, ![26000, 16]⟩
abbrev S1024x16 : Shape := ⟨2, ![1024, 16]⟩
abbrev S128x26000 : Shape := ⟨2, ![128, 26000]⟩
abbrev S128x16 : Shape := ⟨2, ![128, 16]⟩

abbrev nBuf : Space → Nat
  | .hbm => 5
  | .vmem => 5
  | .smem => 0
  | _ => 0

abbrev bufTy : (tb : Table) → Fin (tcTables nBuf tb) → BufTy
  | .hbm, ⟨0, _⟩ => ⟨S1024x26000, .f32⟩
  | .hbm, ⟨1, _⟩ => ⟨S26x1000x16, .f32⟩
  | .hbm, ⟨2, _⟩ => ⟨S26000x16, .f32⟩
  | .hbm, ⟨3, _⟩ => ⟨S26000x16, .bf16⟩
  | .hbm, ⟨4, _⟩ => ⟨S1024x16, .f32⟩
  | .local _ .vmem, ⟨0, _⟩ => ⟨S128x26000, .f32⟩
  | .local _ .vmem, ⟨1, _⟩ => ⟨S128x26000, .f32⟩
  | .local _ .vmem, ⟨2, _⟩ => ⟨S26000x16, .bf16⟩
  | .local _ .vmem, ⟨3, _⟩ => ⟨S128x16, .f32⟩
  | .local _ .vmem, ⟨4, _⟩ => ⟨S128x16, .f32⟩
  | _, _ => ⟨S1024x26000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x26000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26000x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelCastIdeal.lean ====
variable {F : FTy → Type} [FloatOps F]
-- ==== ReferenceIdeal.lean ====
abbrev S1024x26000 : Shape := ⟨2, ![1024, 26000]⟩
abbrev S26x1000x16 : Shape := ⟨3, ![26, 1000, 16]⟩
abbrev S1024x26x1000 : Shape := ⟨3, ![1024, 26, 1000]⟩
abbrev S26x16x1024 : Shape := ⟨3, ![26, 16, 1024]⟩
abbrev S1024x26x16 : Shape := ⟨3, ![1024, 26, 16]⟩
abbrev S_ : Shape := ⟨0, ![]⟩
abbrev S1024x16 : Shape := ⟨2, ![1024, 16]⟩

abbrev nBuf : Space → Nat
  | .hbm => 7
  | .vmem => 0
  | .smem => 0
  | _ => 0

abbrev bufTy : (tb : Table) → Fin (tcTables nBuf tb) → BufTy
  | .hbm, ⟨0, _⟩ => ⟨S1024x26000, .f32⟩
  | .hbm, ⟨1, _⟩ => ⟨S26x1000x16, .f32⟩
  | .hbm, ⟨2, _⟩ => ⟨S1024x26x1000, .f32⟩
  | .hbm, ⟨3, _⟩ => ⟨S26x16x1024, .f32⟩
  | .hbm, ⟨4, _⟩ => ⟨S1024x26x16, .f32⟩
  | .hbm, ⟨5, _⟩ => ⟨S_, .f32⟩
  | .hbm, ⟨6, _⟩ => ⟨S1024x16, .f32⟩
  | _, _ => ⟨S1024x26000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Bands.lean ====
/-
  Hand-written, untrusted. The row bands the launch works on: the array of weights (the argument `z`) has 1024 rows, cut into
  eight bands of 128 rows, one band per grid point, and the result is the eight bands of results set one under another. A band
  is read with `band`, the result is put together with `stack`, and `stack_ix2` reads the result at a row of a band.
-/
module

public import Idealize.ShloMosaic.Lib.ValueIdxCore
public import Idealize.ShloMosaic.Lib.Pipeline.Value

@[expose] public section

noncomputable section

namespace Cert.Proof.Bands

open Idealize.ShloMosaic Idealize.ShloMosaic.ValueIdx

/-- The array of weights, one band of it, one band of the result, the result. -/
abbrev Weights : Shape := ⟨2, ![1024, 26000]⟩
abbrev WeightsBand : Shape := ⟨2, ![128, 26000]⟩
abbrev OutBand : Shape := ⟨2, ![128, 16]⟩
abbrev Out : Shape := ⟨2, ![1024, 16]⟩

variable {α : Type}

/-- Row `r` of band `t`, among all rows. -/
def row (t : Fin 8) (r : Fin 128) : Fin 1024 := ⟨128 * t.val + r.val, by omega⟩

/-- Band `t` of the array of weights: its rows `128 * t` to `128 * t + 127`. -/
def band (x : Weights.Idx → α) (t : Fin 8) : WeightsBand.Idx → α := fun y => x (ix2 (row t (y 0)) (y 1))

/-- Eight bands of results, one under another. -/
def stack (f : Fin 8 → OutBand.Idx → α) : Out.Idx → α := fun i =>
  f ⟨(i 0).val / 128, by have h : (i 0).val < 1024 := (i 0).isLt; omega⟩
    (ix2 ⟨(i 0).val % 128, Nat.mod_lt _ (by decide)⟩ (i 1))

/-- Row `r` of band `t` of the stack is row `r` of the `t`-th band. -/
theorem stack_ix2 (f : Fin 8 → OutBand.Idx → α) (t : Fin 8) (r : Fin 128) (j : Fin 16) :
    stack f (ix2 (row t r) j) = f t (ix2 r j) := by
  have ht : (⟨(128 * t.val + r.val) / 128, by omega⟩ : Fin 8) = t :=
    Fin.ext (by show (128 * t.val + r.val) / 128 = t.val; omega)
  have hr : (⟨(128 * t.val + r.val) % 128, Nat.mod_lt _ (by decide)⟩ : Fin 128) = r :=
    Fin.ext (by show (128 * t.val + r.val) % 128 = r.val; omega)
  show f (⟨(128 * t.val + r.val) / 128, _⟩ : Fin 8) (ix2 (⟨(128 * t.val + r.val) % 128, _⟩ : Fin 128) j) = _
  rw [ht, hr]

/-- Every row is a row of a band. -/
theorem row_onto (b : Fin 1024) : ∃ (t : Fin 8) (r : Fin 128), row t r = b :=
  ⟨⟨b.val / 128, by omega⟩, ⟨b.val % 128, Nat.mod_lt _ (by decide)⟩,
    Fin.ext (by show 128 * (b.val / 128) + b.val % 128 = b.val; omega)⟩

end Cert.Proof.Bands

end
-- ==== Proof.KernelValue.lean ====
/-
  Hand-written, untrusted. `Kernel`'s run with its value, at any reading of the floats that has words: the result is eight
  bands, band `t` being the body's payload (the skeleton's `k0_pay1`, the product) of band `t` of the half words that the host
  made of the array of weights and of the whole codebook as the host prepared it.
-/
module

public import proofs.«01_k».proof.Proof.Gen.Kernel.Value
public import proofs.«01_k».proof.Proof.Bands

@[expose] public section

set_option maxRecDepth 16384

noncomputable section

namespace Cert.Proof.KernelValue

open Cert.Kernel Cert.Kernel.Gen Cert.Proof.Bands
open Idealize.ShloMosaic Idealize.ShloMosaic.TcCoe Idealize.ShloMosaic.ValueIdx Idealize.SL.Sem
open Idealize.ShloMosaic.Pipeline (Dat Window)

variable {F : FTy → Type} [BitOps F]
variable (m : (ℓ : Loc nD τ sig) → Buf (Elt F) ℓ) (ρ : Dev nD → PrngReg)

/-- Point `t` takes band `t` of the half words, the whole codebook, and writes band `t` of the result. -/
theorem index_facts : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0))

/-- The stores cover their block and the loads read theirs whole: the body leaves its payload. -/
theorem out_eq (x0 : Vec F S128x26000 .i16) (x1 : Vec F S26000x16 .bf16) : out0_2 (F := F) x0 x1 = k0_pay1 x0 x1 := by
  have hz0 : (![0, 0] : Fin S128x26000.rank → Nat) = fun _ => 0 := funext fun a => by fin_cases a <;> rfl
  have hz1 : (![0, 0] : Fin S26000x16.rank → Nat) = fun _ => 0 := funext fun a => by fin_cases a <;> rfl
  have hz2 : (![0, 0] : Fin S128x16.rank → Nat) = fun _ => 0 := funext fun a => by fin_cases a <;> rfl
  unfold out0_2
  rw [View.canon_unit_zero hz2, View.ld_unit_zero hz0, View.ld_unit_zero hz1]

/-- The first operand's block at point `t` is band `t` of the half words. -/
theorem block0 (c : Dev nD) (t : Fin cfg0.N) :
    iblk m c 0 t = band (V m c (Pipeline.arrRef spec0 0)) t := by
  obtain ⟨⟨h0, h1⟩, -⟩ := index_facts t
  funext y
  refine congrArg (V m c (Pipeline.arrRef spec0 0)) (funext fun a => Fin.ext ?_)
  refine (win0_0.rect_emb_val t y a).trans ?_
  match a with
  | ⟨0, _⟩ => exact (congrArg (· * 128 + (y 0).val) h0).trans (congrArg (· + (y 0).val) (Nat.mul_comm t.val 128))
  | ⟨1, _⟩ => exact (congrArg (· * 26000 + (y 1).val) h1).trans (by rw [Nat.zero_mul, Nat.zero_add])

/-- The second operand's block is the whole prepared codebook, at every point. -/
theorem block1 (c : Dev nD) (t : Fin cfg0.N) : iblk m c 1 t = V m c (Pipeline.arrRef spec0 1) := by
  obtain ⟨-, ⟨h0, h1⟩, -⟩ := index_facts t
  funext y
  refine congrArg (V m c (Pipeline.arrRef spec0 1)) (funext fun a => Fin.ext ?_)
  match a with
  | ⟨0, _⟩ => exact win0_1.rect_emb_val_of_index_zero t 0 h0 y
  | ⟨1, _⟩ => exact win0_1.rect_emb_val_of_index_zero t 1 h1 y

/-- Element `(r, j)` of the result's block at point `t` is element `(r, j)` of band `t` of the result array. -/
theorem block2_emb (t : Fin cfg0.N) (r : Fin 128) (j : Fin 16) :
    ((cfg0.win 2).blk t).view.emb (ix2 r j) = ix2 (row t r) j := by
  obtain ⟨-, -, h0, h1⟩ := index_facts t
  refine funext fun a => Fin.ext ?_
  refine (win0_2.rect_emb_val t (ix2 r j) a).trans ?_
  match a with
  | ⟨0, _⟩ => exact (congrArg (· * 128 + r.val) h0).trans (congrArg (· + r.val) (Nat.mul_comm t.val 128))
  | ⟨1, _⟩ => exact (congrArg (· * 16 + j.val) h1).trans (by rw [Nat.zero_mul, Nat.zero_add])

/-- What point `t` writes back is the payload of band `t` of the half words and the prepared codebook. -/
theorem written (c : Dev nD) (t : Fin cfg0.N) :
    (dats (F := F) m 0 c).flushed 2 t = k0_pay1 (band (V m c main_v3) t) (V m c main_v5) := by
  rw [Value.flushed2, out_eq, block0, block1]
  rfl

/-- The result array after the run: band `t` is the payload of band `t` of the half words and the prepared codebook. -/
theorem final (c : Dev nD) :
    (dats (F := F) m 0 c).arrAt 2 cfg0.N
      = stack fun t => k0_pay1 (band (V m c main_v3) t) (V m c main_v5) := by
  funext i
  obtain ⟨b, j, rfl⟩ : ∃ (b : Fin 1024) (j : Fin 16), i = ix2 b j := ⟨i 0, i 1, eq_ix2 i⟩
  obtain ⟨t, r, rfl⟩ := row_onto b
  have h := (dats (F := F) m 0 c).arrAt_emb_eq_flushed 2 Value.disjoint2 t (flush0_2 t) (ix2 r j)
  refine (congrArg ((dats (F := F) m 0 c).arrAt 2 cfg0.N) (block2_emb t r j)).symm.trans (h.trans ?_)
  exact (congrFun (written m c t) (ix2 r j)).trans
    (stack_ix2 (fun t => k0_pay1 (band (V m c main_v3) t) (V m c main_v5)) t r j).symm

/-- The half words the host makes of the array of weights: the high sixteen bits of every element's word. -/
def halves (x : Vec F S1024x26000 .f32) : Vec F S1024x26000 .i16 :=
  trunci 16 (Host.shrui (bitcastToInt x)
    (broadcastInDim S1024x26000 ![] bcast_S_S1024x26000 (constantI S_ 32 16#32))) natLt_16_32

/-- The run: the result is the stack of those bands, and the arguments end unchanged. -/
theorem run : θ_run (defs (F := F)) (onTc (τ := τ) (main (F := F))) ⟨m, fun _ => 0, ρ⟩ fun r => ∀ c : Dev nD,
    r.2.mem ((c.tc : Thread nD τ).loc main_v6)
      = (stack fun t => k0_pay1 (F := F) (band (halves (m ((c.tc : Thread nD τ).loc main_arg0))) t)
          (truncf .bf16 (shapeCast S26000x16 (m ((c.tc : Thread nD τ).loc main_arg1)) shapeCasts_S26x1000x16_S26000x16)
            bitsLt_bf16_f32))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨((h c).1.trans (final m c)).trans ?_, (h c).2⟩) (Value.run_blocks m ρ)
  have h0 : V m c main_v3 = halves (m ((c.tc : Thread nD τ).loc main_arg0)) := by
    dsimp only [V]; after_results <;> rfl
  have h1 : V m c main_v5 = truncf .bf16 (shapeCast S26000x16 (m ((c.tc : Thread nD τ).loc main_arg1))
      shapeCasts_S26x1000x16_S26000x16) bitsLt_bf16_f32 := by
    dsimp only [V]; after_results <;> rfl
  rw [h0, h1]

end Cert.Proof.KernelValue

end
-- ==== Proof.Words.lean ====
/-
  Hand-written, untrusted. The cast in either place: narrowing the array of weights on the host and then cutting it into bands, as
  `Kernel` does, or cutting it into bands and narrowing each in the body, as `KernelCast` does, gives the same words, so the two
  runs end with the same result.
-/
module

public import proofs.«01_k».proof.Proof.KernelValue
public import proofs.«01_k».proof.Proof.CastValue

@[expose] public section

set_option maxRecDepth 16384

noncomputable section

namespace Cert.Proof.Words

open Cert.Proof.Bands Idealize.ShloMosaic Idealize.ShloMosaic.ValueIdx

variable {F : FTy → Type} [BitOps F]

/-- A band of the host's half words is the high sixteen bits of the band's words: the host's shift by 16 is the vector
    unit's. -/
theorem band_halves (x : Weights.Idx → F .f32) (t : Fin 8) :
    band (KernelValue.halves (F := F) x) t
      = trunci 16 (shrui (bitcastToInt (band x t)) (broadcast WeightsBand 16#32)) Cert.KernelCast.Gen.facts.natLt_16_32 :=
  funext fun y => congrArg (BitVec.setWidth 16) (shrui_host _ 16#32)

/-- On a band, the host's cast followed by `Kernel`'s body is `KernelCast`'s body, whose first steps are the cast. -/
theorem payload_eq (x : Weights.Idx → F .f32) (t : Fin 8) (w : (⟨2, ![26000, 16]⟩ : Shape).Idx → F .bf16) :
    Cert.Kernel.Gen.k0_pay1 (F := F) (band (KernelValue.halves (F := F) x) t) w
      = Cert.KernelCast.Gen.k0_pay1 (F := F) (band x t) w := by
  rw [band_halves]
  unfold Cert.Kernel.Gen.k0_pay1 Cert.KernelCast.Gen.k0_pay1
  rw [shapeCast_self]
  rfl

end Cert.Proof.Words

end
-- ==== Proof.IdealValue.lean ====
/-
  Hand-written, untrusted. `KernelCastIdeal`'s run with its value, at any reading of the floats: the result is eight bands, band
  `t` being the body's payload (the skeleton's `k0_pay1`, the product) of band `t` of the array of weights and of the whole
  codebook as the host prepared it.
-/
module

public import proofs.«01_k».proof.Proof.Gen.KernelCastIdeal.Value
public import proofs.«01_k».proof.Proof.Bands

@[expose] public section

set_option maxRecDepth 16384

noncomputable section

namespace Cert.Proof.IdealValue

open Cert.KernelCastIdeal Cert.KernelCastIdeal.Gen Cert.Proof.Bands
open Idealize.ShloMosaic Idealize.ShloMosaic.TcCoe Idealize.ShloMosaic.ValueIdx Idealize.SL.Sem
open Idealize.ShloMosaic.Pipeline (Dat Window)

variable {F : FTy → Type} [FloatOps F]
variable (m : (ℓ : Loc nD τ sig) → Buf (Elt F) ℓ) (ρ : Dev nD → PrngReg)

/-- Point `t` takes band `t` of the array of weights, the whole codebook, and writes band `t` of the result. -/
theorem index_facts : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0))

/-- The stores cover their block and the loads read theirs whole: the body leaves its payload. -/
theorem out_eq (x0 : Vec F S128x26000 .f32) (x1 : Vec F S26000x16 .bf16) : out0_2 (F := F) x0 x1 = k0_pay1 x0 x1 := by
  have hz0 : (![0, 0] : Fin S128x26000.rank → Nat) = fun _ => 0 := funext fun a => by fin_cases a <;> rfl
  have hz1 : (![0, 0] : Fin S26000x16.rank → Nat) = fun _ => 0 := funext fun a => by fin_cases a <;> rfl
  have hz2 : (![0, 0] : Fin S128x16.rank → Nat) = fun _ => 0 := funext fun a => by fin_cases a <;> rfl
  unfold out0_2
  rw [View.canon_unit_zero hz2, View.ld_unit_zero hz0, View.ld_unit_zero hz1]

/-- The first operand's block at point `t` is band `t` of the array of weights. -/
theorem block0 (c : Dev nD) (t : Fin cfg0.N) :
    iblk m c 0 t = band (V m c (Pipeline.arrRef spec0 0)) t := by
  obtain ⟨⟨h0, h1⟩, -⟩ := index_facts t
  funext y
  refine congrArg (V m c (Pipeline.arrRef spec0 0)) (funext fun a => Fin.ext ?_)
  refine (win0_0.rect_emb_val t y a).trans ?_
  match a with
  | ⟨0, _⟩ => exact (congrArg (· * 128 + (y 0).val) h0).trans (congrArg (· + (y 0).val) (Nat.mul_comm t.val 128))
  | ⟨1, _⟩ => exact (congrArg (· * 26000 + (y 1).val) h1).trans (by rw [Nat.zero_mul, Nat.zero_add])

/-- The second operand's block is the whole prepared codebook, at every point. -/
theorem block1 (c : Dev nD) (t : Fin cfg0.N) : iblk m c 1 t = V m c (Pipeline.arrRef spec0 1) := by
  obtain ⟨-, ⟨h0, h1⟩, -⟩ := index_facts t
  funext y
  refine congrArg (V m c (Pipeline.arrRef spec0 1)) (funext fun a => Fin.ext ?_)
  match a with
  | ⟨0, _⟩ => exact win0_1.rect_emb_val_of_index_zero t 0 h0 y
  | ⟨1, _⟩ => exact win0_1.rect_emb_val_of_index_zero t 1 h1 y

/-- Element `(r, j)` of the result's block at point `t` is element `(r, j)` of band `t` of the result array. -/
theorem block2_emb (t : Fin cfg0.N) (r : Fin 128) (j : Fin 16) :
    ((cfg0.win 2).blk t).view.emb (ix2 r j) = ix2 (row t r) j := by
  obtain ⟨-, -, h0, h1⟩ := index_facts t
  refine funext fun a => Fin.ext ?_
  refine (win0_2.rect_emb_val t (ix2 r j) a).trans ?_
  match a with
  | ⟨0, _⟩ => exact (congrArg (· * 128 + r.val) h0).trans (congrArg (· + r.val) (Nat.mul_comm t.val 128))
  | ⟨1, _⟩ => exact (congrArg (· * 16 + j.val) h1).trans (by rw [Nat.zero_mul, Nat.zero_add])

/-- What point `t` writes back is the payload of band `t` of the array of weights and the prepared codebook. -/
theorem written (c : Dev nD) (t : Fin cfg0.N) :
    (dats (F := F) m 0 c).flushed 2 t = k0_pay1 (band (V m c main_arg0) t) (V m c main_v1) := by
  rw [Value.flushed2, out_eq, block0, block1]
  rfl

/-- The result array after the run: band `t` is the payload of band `t` of the array of weights and the prepared codebook. -/
theorem final (c : Dev nD) :
    (dats (F := F) m 0 c).arrAt 2 cfg0.N
      = stack fun t => k0_pay1 (band (V m c main_arg0) t) (V m c main_v1) := by
  funext i
  obtain ⟨b, j, rfl⟩ : ∃ (b : Fin 1024) (j : Fin 16), i = ix2 b j := ⟨i 0, i 1, eq_ix2 i⟩
  obtain ⟨t, r, rfl⟩ := row_onto b
  have h := (dats (F := F) m 0 c).arrAt_emb_eq_flushed 2 Value.disjoint2 t (flush0_2 t) (ix2 r j)
  refine (congrArg ((dats (F := F) m 0 c).arrAt 2 cfg0.N) (block2_emb t r j)).symm.trans (h.trans ?_)
  exact (congrFun (written m c t) (ix2 r j)).trans
    (stack_ix2 (fun t => k0_pay1 (band (V m c main_arg0) t) (V m c main_v1)) t r j).symm

/-- The run: the result is the stack of those bands, and the arguments end unchanged. -/
theorem run : θ_run (defs (F := F)) (onTc (τ := τ) (main (F := F))) ⟨m, fun _ => 0, ρ⟩ fun r => ∀ c : Dev nD,
    r.2.mem ((c.tc : Thread nD τ).loc main_v2)
      = (stack fun t => k0_pay1 (F := F) (band (m ((c.tc : Thread nD τ).loc main_arg0)) t)
          (truncf .bf16 (shapeCast S26000x16 (m ((c.tc : Thread nD τ).loc main_arg1)) shapeCasts_S26x1000x16_S26000x16)
            bitsLt_bf16_f32))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨((h c).1.trans (final m c)).trans ?_, (h c).2⟩) (Value.run_blocks m ρ)
  have h1 : V m c main_v1 = truncf .bf16 (shapeCast S26000x16 (m ((c.tc : Thread nD τ).loc main_arg1))
      shapeCasts_S26x1000x16_S26000x16) bitsLt_bf16_f32 := by
    dsimp only [V]; after_results <;> rfl
  rw [V_main_arg0, h1]

end Cert.Proof.IdealValue

end
-- ==== Proof.Sums.lean ====
/-
  Hand-written, untrusted. The two sums over the extended reals: a result of the kernel is one sum over the 26000 columns of a
  row of weights, a result of the reference is a sum over the 26 fields of a sum over the field's 1000 codes. The columns are
  the pairs of a field and a code, so the sums are the same: a sum over the extended reals does not depend on its order.
-/
module

public import proofs.«01_k».proof.Proof.Gen.KernelCastIdeal.Skeleton
public import proofs.«01_k».proof.Proof.Gen.ReferenceIdeal.Read
public import proofs.«01_k».proof.Proof.Bands

@[expose] public section

set_option maxRecDepth 16384

noncomputable section

namespace Cert.Proof.Sums

open Cert.Proof.Bands Idealize.ShloMosaic Idealize.ShloMosaic.ValueIdx

/-- The codebook as it is passed, and as the matrix the product takes. -/
abbrev Book : Shape := ⟨3, ![26, 1000, 16]⟩
abbrev Mat : Shape := ⟨2, ![26000, 16]⟩

/-- The column of code `k` of field `f`. -/
def column (f : Fin 26) (k : Fin 1000) : Fin 26000 := ⟨f.val * 1000 + k.val, by omega⟩

/-- A sum over the columns is the sum over the fields of the sums over their codes. -/
theorem sum_columns (g : Fin 26000 → EReal) : ∑ q : Fin 26000, g q = ∑ f : Fin 26, ∑ k : Fin 1000, g (column f k) := by
  rw [← Fintype.sum_prod_type' (fun f k => g (column f k)), ← Equiv.sum_comp (finProdFinEquiv (m := 26) (n := 1000)) g]
  refine Finset.sum_congr rfl fun p _ => congrArg g (Fin.ext ?_)
  show p.2.val + 1000 * p.1.val = p.1.val * 1000 + p.2.val
  omega

/-- The reshaped codebook at the column of code `k` of field `f` is the codebook at `(f, k)`. -/
theorem mat_column {α : Type} (w : Book.Idx → α) (h : Book.ShapeCasts Mat) (f : Fin 26) (k : Fin 1000) (j : Fin 16) :
    shapeCast Mat w h (ix2 (column f k) j) = w (ix3 f k j) :=
  shapeCast_apply w h (ix2 (column f k) j) (ix3 f k j) (by
    rewrite [Shape.rowMajor_val_two, Shape.rowMajor_val_three]
    rfl)

section Kernel

open Cert.KernelCastIdeal Cert.KernelCastIdeal.Gen

/-- The product's operand indices: result `(r, j)` at column `q` multiplies `(r, q)` of the left operand by `(q, j)` of the
    right one. -/
theorem lhs_index (r : Fin 128) (j : Fin 16) (q : dot_S128x26000_S26000x16_S128x16_1_0_0_1_n_n.contr.Idx) (n : Fin 26000)
    (hn : (q ⟨0, by decide⟩).val = n.val) :
    dot_S128x26000_S26000x16_S128x16_1_0_0_1_n_n.lhsIdx (ix2 r j) q = ix2 r n := by
  have h0 : (dot_S128x26000_S26000x16_S128x16_1_0_0_1_n_n.lhsIdx (ix2 r j) q 0).val = r.val := by
    unfold DotDims.lhsIdx
    rw [dif_neg (show ¬(0 : Fin S128x26000.rank) ∈ dot_S128x26000_S26000x16_S128x16_1_0_0_1_n_n.lhsBatch by decide),
      dif_pos (show (0 : Fin S128x26000.rank) ∈ dot_S128x26000_S26000x16_S128x16_1_0_0_1_n_n.lhsNonContracting by decide)]
    rfl
  have h1 := (dot_S128x26000_S26000x16_S128x16_1_0_0_1_n_n.lhsIdx_val_of_single rfl (ix2 r j) q).trans hn
  exact Shape.idx_ext₂ h0 h1

/-- And the right operand's index there. -/
theorem rhs_index (r : Fin 128) (j : Fin 16) (q : dot_S128x26000_S26000x16_S128x16_1_0_0_1_n_n.contr.Idx) (n : Fin 26000)
    (hn : (q ⟨0, by decide⟩).val = n.val) :
    dot_S128x26000_S26000x16_S128x16_1_0_0_1_n_n.rhsIdx (ix2 r j) q = ix2 n j := by
  have h0 := (dot_S128x26000_S26000x16_S128x16_1_0_0_1_n_n.rhsIdx_val_of_single rfl (ix2 r j) q).trans hn
  have h1 : (dot_S128x26000_S26000x16_S128x16_1_0_0_1_n_n.rhsIdx (ix2 r j) q 1).val = j.val := by
    unfold DotDims.rhsIdx
    rw [dif_neg (show ¬(1 : Fin S26000x16.rank) ∈ dot_S128x26000_S26000x16_S128x16_1_0_0_1_n_n.rhsBatch by decide),
      dif_pos (show (1 : Fin S26000x16.rank) ∈ dot_S128x26000_S26000x16_S128x16_1_0_0_1_n_n.rhsNonContracting by decide)]
    rfl
  exact Shape.idx_ext₂ h0 h1

/-- The body's payload over the extended reals, where a change of format is the identity: the sum over the columns of the
    band's element times the matrix's. -/
theorem payload_apply (z : WeightsBand.Idx → EReal) (w : Mat.Idx → EReal) (r : Fin 128) (j : Fin 16) :
    k0_pay1 (F := Ideal) z w (ix2 r j) = ∑ q : Fin 26000, z (ix2 r q) * w (ix2 q j) := by
  unfold k0_pay1
  rw [shapeCast_self]
  refine (Ideal.matmul_constant_zero_apply (φ₁ := .bf16) (φ₂ := .bf16)
    dot_S128x26000_S26000x16_S128x16_1_0_0_1_n_n none z w (ix2 r j)).trans ?_
  rw [← Equiv.sum_comp (contrEquiv1 dot_S128x26000_S26000x16_S128x16_1_0_0_1_n_n 26000 rfl rfl).symm]
  refine Finset.sum_congr rfl fun n _ => ?_
  have hn := contrEquiv1_symm_val dot_S128x26000_S26000x16_S128x16_1_0_0_1_n_n 26000 rfl rfl n
  rw [lhs_index r j _ n hn, rhs_index r j _ n hn]

end Kernel

/-- The reference at `(b, j)`: the sum over the fields of the sums over their codes of the codebook's element times the
    weight. -/
theorem reference_apply (z : Weights.Idx → EReal) (w : Book.Idx → EReal) (b : Fin 1024) (j : Fin 16) :
    Cert.ReferenceIdeal.Read.val_main_v3 (F := Ideal) z w (ix2 b j)
      = ∑ f : Fin 26, ∑ k : Fin 1000, w (ix3 f k j) * z (ix2 b (column f k)) := by
  rw [Cert.ReferenceIdeal.Read.val_main_v3_apply, Cert.ReferenceIdeal.Read.val_main_cst_apply]
  refine (congrArg (· + _) Ideal.ofBits_zero_f32).trans ((zero_add _).trans ?_)
  refine Finset.sum_congr rfl fun f _ => ?_
  rw [Cert.ReferenceIdeal.Read.val_main_v2_apply, Cert.ReferenceIdeal.Read.val_main_v1_apply]
  refine Finset.sum_congr rfl fun k _ => ?_
  rw [Cert.ReferenceIdeal.Read.val_main_v0_apply]
  refine congrArg₂ (· * ·) (congrArg w ?_) (congrArg z ?_)
  · exact funext fun a => Fin.ext (by match a with | ⟨0, _⟩ => rfl | ⟨1, _⟩ => rfl | ⟨2, _⟩ => rfl)
  · refine funext fun a => Fin.ext ?_
    match a with
    | ⟨0, _⟩ => show ((b.val * 26 + f.val) * 1000 + k.val) / 26000 = b.val; omega
    | ⟨1, _⟩ => show ((b.val * 26 + f.val) * 1000 + k.val) % 26000 = f.val * 1000 + k.val; omega

/-- The stack of the kernel's bands is the reference's result. -/
theorem stack_eq (z : Weights.Idx → EReal) (w : Book.Idx → EReal) (h : Book.ShapeCasts Mat) :
    (stack fun t => Cert.KernelCastIdeal.Gen.k0_pay1 (F := Ideal) (band z t) (shapeCast Mat w h))
      = Cert.ReferenceIdeal.Read.val_main_v3 (F := Ideal) z w := by
  funext i
  obtain ⟨b, j, rfl⟩ : ∃ (b : Fin 1024) (j : Fin 16), i = ix2 b j := ⟨i 0, i 1, eq_ix2 i⟩
  rw [reference_apply]
  obtain ⟨t, r, rfl⟩ := row_onto b
  rw [stack_ix2, payload_apply, sum_columns]
  refine Finset.sum_congr rfl fun f _ => Finset.sum_congr rfl fun k _ => ?_
  rw [mat_column, mul_comm]
  rfl

end Cert.Proof.Sums

end
-- ==== Proof.lean ====
/-
  Hand-written, untrusted. The proof of `Cert.Claim` (Defs.lean), assembled: the frames are the generated runs, the two kernels
  are equal word for word by Proof/Words.lean, the idealization's steps are the rules' own theorems, and the kernel over the
  extended reals is the reference by Proof/Sums.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelCast
public import proofs.«01_k».proof.Proof.Gen.KernelCast.Skeleton
public import proofs.«01_k».proof.Proof.Gen.KernelCast.Launch
public import proofs.«01_k».proof.Proof.Gen.KernelCast.Points
public import proofs.«01_k».proof.Proof.Gen.KernelCast.Frame
public import proofs.«01_k».proof.Proof.Gen.KernelCastIdeal
public import proofs.«01_k».proof.Proof.Gen.KernelCastIdeal.Skeleton
public import proofs.«01_k».proof.Proof.Gen.KernelCastIdeal.Launch
public import proofs.«01_k».proof.Proof.Gen.KernelCastIdeal.Points
public import proofs.«01_k».proof.Proof.Gen.KernelCastIdeal.Frame
public import proofs.«01_k».proof.Proof.Gen.ReferenceIdeal
public import proofs.«01_k».proof.Proof.Gen.Kernel.Value
public import proofs.«01_k».proof.Proof.Gen.KernelCast.Value
public import proofs.«01_k».proof.Proof.Gen.KernelCastIdeal.Value
public import proofs.«01_k».proof.Proof.Gen.ReferenceIdeal.Run
public import proofs.«01_k».proof.Proof.Gen.ReferenceIdeal.Read
public import proofs.«01_k».proof.Proof.Words
public import proofs.«01_k».proof.Proof.IdealValue
public import proofs.«01_k».proof.Proof.Sums
public import Idealize.ShloMosaic.Lib.Bf16Pair
public import Idealize.ShloMosaic.Adequacy
public import Idealize.ShloMosaic.Init

@[expose] public section

noncomputable section

namespace Cert.Proof

open Idealize.ShloMosaic Idealize.SL.Sem

/-- The reference runs, leaves its arguments, and has no counter to leave away from zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The kernel and the kernel with the cast in its body end with the same words, whatever the arguments. -/
theorem words_equal : Cert.bitexact_Kernel_KernelCast (hKernel := Cert.Kernel.Gen.facts)
    (hKernelCast := Cert.KernelCast.Gen.facts) := fun m g m' g' _ hagree =>
  ⟨_, KernelValue.run (F := Bits) m g, (θ_run _ _ _).mono (fun r h c => ⟨by
    refine (h c).1.trans ?_
    rw [(hagree c).1, (hagree c).2]
    exact congrArg Bands.stack (funext fun t => (Words.payload_eq (F := Bits) _ t _).symm), (h c).2⟩)
    (CastValue.run (F := Bits) m' g')⟩

/-- Each step of the idealization is an instance of its rule. -/
theorem idealization : Cert.preserves_KernelCast_KernelCastIdeal :=
  ⟨IdealRules.bf16_pair.halfStatement _, IdealRules.bf16_pack.statement _⟩

/-- Over the extended reals the kernel's result is the reference's. -/
theorem reals_equal : Cert.algebraic_KernelCastIdeal_ReferenceIdeal (hKernelCastIdeal := Cert.KernelCastIdeal.Gen.facts)
    (hReferenceIdeal := Cert.ReferenceIdeal.Gen.facts) := fun m g m' g' _ hagree =>
  ⟨_, IdealValue.run (F := Ideal) m g, (θ_run _ _ _).mono (fun r h c => ⟨by
    refine (h c).1.trans ((Cert.ReferenceIdeal.Read.val_main_v3_eq (F := Ideal) _ _).trans ?_)
    rw [(hagree c).1, (hagree c).2]
    exact (Sums.stack_eq _ _ _).symm, (h c).2⟩)
    (Cert.ReferenceIdeal.Value.run (F := Ideal) m' g')⟩

/-- Everything claimed. -/
theorem claim : Cert.Claim :=
  ⟨Cert.Kernel.Gen.facts, Cert.KernelCast.Gen.facts, Cert.KernelCastIdeal.Gen.facts, Cert.ReferenceIdeal.Gen.facts,
    fun m g _ => Cert.Kernel.Gen.frame m g, fun m g _ => Cert.KernelCast.Gen.frame m g,
    fun m g _ => Cert.KernelCastIdeal.Gen.frame m g, frame_reference, words_equal, idealization, reals_equal⟩

end Cert.Proof

end
